-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v62) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000x16 : Shape := ⟨2, ![320000, 16]⟩
abbrev S128x512 : Shape := ⟨2, ![128, 512]⟩
abbrev S512 : Shape := ⟨1, ![512]⟩
abbrev S16x512 : Shape := ⟨2, ![16, 512]⟩
abbrev S1x320000 : Shape := ⟨2, ![1, 320000]⟩
abbrev S320000 : Shape := ⟨1, ![320000]⟩
abbrev S10000x512 : Shape := ⟨2, ![10000, 512]⟩
abbrev S1x512 : Shape := ⟨2, ![1, 512]⟩
abbrev S10000x4x128 : Shape := ⟨3, ![10000, 4, 128]⟩
abbrev S320000x512 : Shape := ⟨2, ![320000, 512]⟩
abbrev S320000x4x128 : Shape := ⟨3, ![320000, 4, 128]⟩
abbrev S_ : Shape := ⟨0, ![]⟩
abbrev S320000x1 : Shape := ⟨2, ![320000, 1]⟩
abbrev S320000x4 : Shape := ⟨2, ![320000, 4]⟩
abbrev S10000x4 : Shape := ⟨2, ![10000, 4]⟩
abbrev S320000x4x1 : Shape := ⟨3, ![320000, 4, 1]⟩
abbrev S8x128 : Shape := ⟨2, ![8, 128]⟩
abbrev S1x1 : Shape := ⟨2, ![1, 1]⟩

abbrev nBuf : Space → Nat
  | .hbm => 109
  | .vmem => 2
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S128x512, .f32⟩
  | .hbm, ⟨4, _⟩ => ⟨S512, .f32⟩
  | .hbm, ⟨5, _⟩ => ⟨S128x512, .f32⟩
  | .hbm, ⟨6, _⟩ => ⟨S512, .f32⟩
  | .hbm, ⟨7, _⟩ => ⟨S128x512, .f32⟩
  | .hbm, ⟨8, _⟩ => ⟨S512, .f32⟩
  | .hbm, ⟨9, _⟩ => ⟨S16x512, .f32⟩
  | .hbm, ⟨10, _⟩ => ⟨S128x512, .f32⟩
  | .hbm, ⟨11, _⟩ => ⟨S512, .f32⟩
  | .hbm, ⟨12, _⟩ => ⟨S1x320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S10000x512, .f32⟩
  | .hbm, ⟨17, _⟩ => ⟨S1x512, .f32⟩
  | .hbm, ⟨18, _⟩ => ⟨S10000x512, .f32⟩
  | .hbm, ⟨19, _⟩ => ⟨S10000x512, .f32⟩
  | .hbm, ⟨20, _⟩ => ⟨S10000x4x128, .f32⟩
  | .hbm, ⟨21, _⟩ => ⟨S10000x512, .f32⟩
  | .hbm, ⟨22, _⟩ => ⟨S1x512, .f32⟩
  | .hbm, ⟨23, _⟩ => ⟨S10000x512, .f32⟩
  | .hbm, ⟨24, _⟩ => ⟨S10000x512, .f32⟩
  | .hbm, ⟨25, _⟩ => ⟨S10000x4x128, .f32⟩
  | .hbm, ⟨26, _⟩ => ⟨S10000x512, .f32⟩
  | .hbm, ⟨27, _⟩ => ⟨S1x512, .f32⟩
  | .hbm, ⟨28, _⟩ => ⟨S10000x512, .f32⟩
  | .hbm, ⟨29, _⟩ => ⟨S10000x512, .f32⟩
  | .hbm, ⟨30, _⟩ => ⟨S10000x4x128, .f32⟩
  | .hbm, ⟨31, _⟩ => ⟨S320000x512, .f32⟩
  | .hbm, ⟨32, _⟩ => ⟨S320000x4x128, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x4x128, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x4x128, .f32⟩
  | .hbm, ⟨51, _⟩ => ⟨S320000x4x128, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x4x128, .f32⟩
  | .hbm, ⟨61, _⟩ => ⟨S320000x4x128, .f32⟩
  | .hbm, ⟨62, _⟩ => ⟨S320000x4x128, .f32⟩
  | .hbm, ⟨63, _⟩ => ⟨S_, .f32⟩
  | .hbm, ⟨64, _⟩ => ⟨S320000x4, .f32⟩
  | .hbm, ⟨65, _⟩ => ⟨S_, .f32⟩
  | .hbm, ⟨66, _⟩ => ⟨S_, .f32⟩
  | .hbm, ⟨67, _⟩ => ⟨S320000x4, .f32⟩
  | .hbm, ⟨68, _⟩ => ⟨S320000x4, .f32⟩
  | .hbm, ⟨69, _⟩ => ⟨S320000x4, .f32⟩
  | .hbm, ⟨70, _⟩ => ⟨S_, .f32⟩
  | .hbm, ⟨71, _⟩ => ⟨S10000x4, .f32⟩
  | .hbm, ⟨72, _⟩ => ⟨S320000x1, .i32⟩
  | .hbm, ⟨73, _⟩ => ⟨S10000x4, .f32⟩
  | .hbm, ⟨74, _⟩ => ⟨S_, .i32⟩
  | .hbm, ⟨75, _⟩ => ⟨S320000, .i32⟩
  | .hbm, ⟨76, _⟩ => ⟨S320000, .i1⟩
  | .hbm, ⟨77, _⟩ => ⟨S_, .i32⟩
  | .hbm, ⟨78, _⟩ => ⟨S320000, .i32⟩
  | .hbm, ⟨79, _⟩ => ⟨S320000, .i32⟩
  | .hbm, ⟨80, _⟩ => ⟨S320000, .i32⟩
  | .hbm, ⟨81, _⟩ => ⟨S320000x1, .i32⟩
  | .hbm, ⟨82, _⟩ => ⟨S320000x4, .f32⟩
  | .hbm, ⟨83, _⟩ => ⟨S_, .f32⟩
  | .hbm, ⟨84, _⟩ => ⟨S320000x4, .f32⟩
  | .hbm, ⟨85, _⟩ => ⟨S320000x4, .f32⟩
  | .hbm, ⟨86, _⟩ => ⟨S320000x4, .f32⟩
  | .hbm, ⟨87, _⟩ => ⟨S320000x4x1, .f32⟩
  | .hbm, ⟨88, _⟩ => ⟨S320000x4x128, .f32⟩
  | .hbm, ⟨89, _⟩ => ⟨S320000x4x128, .f32⟩
  | .hbm, ⟨90, _⟩ => ⟨S_, .f32⟩
  | .hbm, ⟨91, _⟩ => ⟨S10000x4x128, .f32⟩
  | .hbm, ⟨92, _⟩ => ⟨S320000x1, .i32⟩
  | .hbm, ⟨93, _⟩ => ⟨S10000x4x128, .f32⟩
  | .hbm, ⟨94, _⟩ => ⟨S10000x512, .f32⟩
  | .hbm, ⟨95, _⟩ => ⟨S10000x512, .f32⟩
  | .hbm, ⟨96, _⟩ => ⟨S10000x512, .f32⟩
  | .hbm, ⟨97, _⟩ => ⟨S1x512, .f32⟩
  | .hbm, ⟨98, _⟩ => ⟨S10000x512, .f32⟩
  | .hbm, ⟨99, _⟩ => ⟨S10000x512, .f32⟩
  | .hbm, ⟨100, _⟩ => ⟨S_, .f32⟩
  | .hbm, ⟨101, _⟩ => ⟨S8x128, .f32⟩
  | .hbm, ⟨102, _⟩ => ⟨S8x128, .f32⟩
  | .hbm, ⟨103, _⟩ => ⟨S1x1, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S10000x512, .f32⟩
  | .hbm, ⟨108, _⟩ => ⟨S10000x512, .f32⟩
  | .local _ .vmem, ⟨0, _⟩ => ⟨S8x128, .f32⟩
  | .local _ .vmem, ⟨1, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S128x512 : Shape := ⟨2, ![128, 512]⟩
abbrev S512 : Shape := ⟨1, ![512]⟩
abbrev S16x512 : Shape := ⟨2, ![16, 512]⟩
abbrev S1x320000 : Shape := ⟨2, ![1, 320000]⟩
abbrev S320000 : Shape := ⟨1, ![320000]⟩
abbrev S10000x512 : Shape := ⟨2, ![10000, 512]⟩
abbrev S1x512 : Shape := ⟨2, ![1, 512]⟩
abbrev S10000x4x128 : Shape := ⟨3, ![10000, 4, 128]⟩
abbrev S320000x512 : Shape := ⟨2, ![320000, 512]⟩
abbrev S320000x4x128 : Shape := ⟨3, ![320000, 4, 128]⟩
abbrev S_ : Shape := ⟨0, ![]⟩
abbrev S320000x1 : Shape := ⟨2, ![320000, 1]⟩
abbrev S320000x4 : Shape := ⟨2, ![320000, 4]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x4 : Shape := ⟨3, ![1, 320000, 4]⟩
abbrev S10000x320000x4 : Shape := ⟨3, ![10000, 320000, 4]⟩
abbrev S10000x4 : Shape := ⟨2, ![10000, 4]⟩
abbrev S320000x4x1 : Shape := ⟨3, ![320000, 4, 1]⟩

abbrev nBuf : Space → Nat
  | .hbm => 146
  | .vmem => 0
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S128x512, .f32⟩
  | 4 => ⟨S512, .f32⟩
  | 5 => ⟨S128x512, .f32⟩
  | 6 => ⟨S512, .f32⟩
  | 7 => ⟨S128x512, .f32⟩
  | 8 => ⟨S512, .f32⟩
  | 9 => ⟨S16x512, .f32⟩
  | 10 => ⟨S128x512, .f32⟩
  | 11 => ⟨S512, .f32⟩
  | 12 => ⟨S1x320000, .i32⟩
  | 13 => ⟨S320000, .i32⟩
  | 14 => ⟨S1x320000, .i32⟩
  | 15 => ⟨S320000, .i32⟩
  | 16 => ⟨S10000x512, .f32⟩
  | 17 => ⟨S1x512, .f32⟩
  | 18 => ⟨S10000x512, .f32⟩
  | 19 => ⟨S10000x512, .f32⟩
  | 20 => ⟨S10000x4x128, .f32⟩
  | 21 => ⟨S10000x512, .f32⟩
  | 22 => ⟨S1x512, .f32⟩
  | 23 => ⟨S10000x512, .f32⟩
  | 24 => ⟨S10000x512, .f32⟩
  | 25 => ⟨S10000x4x128, .f32⟩
  | 26 => ⟨S10000x512, .f32⟩
  | 27 => ⟨S1x512, .f32⟩
  | 28 => ⟨S10000x512, .f32⟩
  | 29 => ⟨S10000x512, .f32⟩
  | 30 => ⟨S10000x4x128, .f32⟩
  | 31 => ⟨S320000x512, .f32⟩
  | 32 => ⟨S320000x4x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x4x128, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x4x128, .f32⟩
  | 51 => ⟨S320000x4x128, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x4x128, .f32⟩
  | 61 => ⟨S320000x4x128, .f32⟩
  | 62 => ⟨S320000x4x128, .f32⟩
  | 63 => ⟨S_, .f32⟩
  | 64 => ⟨S320000x4, .f32⟩
  | 65 => ⟨S_, .f32⟩
  | 66 => ⟨S_, .f32⟩
  | 67 => ⟨S320000x4, .f32⟩
  | 68 => ⟨S320000x4, .f32⟩
  | 69 => ⟨S1x320000, .i32⟩
  | 70 => ⟨S10000, .i32⟩
  | 71 => ⟨S10000x1, .i32⟩
  | 72 => ⟨S10000x320000, .i32⟩
  | 73 => ⟨S10000x320000, .i32⟩
  | 74 => ⟨S10000x320000, .i1⟩
  | 75 => ⟨S10000x320000x1, .i1⟩
  | 76 => ⟨S1x320000x4, .f32⟩
  | 77 => ⟨S_, .f32⟩
  | 78 => ⟨S_, .f32⟩
  | 79 => ⟨S10000x320000x4, .i1⟩
  | 80 => ⟨S10000x320000x4, .f32⟩
  | 81 => ⟨S10000x320000x4, .f32⟩
  | 82 => ⟨S10000x320000x4, .f32⟩
  | 83 => ⟨S_, .f32⟩
  | 84 => ⟨S10000x4, .f32⟩
  | 85 => ⟨S10000x4, .f32⟩
  | 86 => ⟨S_, .f32⟩
  | 87 => ⟨S10000x4, .f32⟩
  | 88 => ⟨S10000x4, .i1⟩
  | 89 => ⟨S_, .f32⟩
  | 90 => ⟨S_, .f32⟩
  | 91 => ⟨S10000x4, .f32⟩
  | 92 => ⟨S10000x4, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x4, .f32⟩
  | 102 => ⟨S320000x4, .f32⟩
  | 103 => ⟨S320000x4, .f32⟩
  | 104 => ⟨S_, .f32⟩
  | 105 => ⟨S10000x4, .f32⟩
  | 106 => ⟨S320000x1, .i32⟩
  | 107 => ⟨S10000x4, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x4, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000x4, .f32⟩
  | 126 => ⟨S320000x4, .f32⟩
  | 127 => ⟨S320000x4, .f32⟩
  | _ => ⟨S10000x128, .f32⟩

abbrev hbmTy0_1 (i : Nat) : BufTy := match i % 128 with
  | 0 => ⟨S_, .f32⟩
  | 1 => ⟨S320000x4, .f32⟩
  | 2 => ⟨S320000x4, .f32⟩
  | 3 => ⟨S320000x4, .f32⟩
  | 4 => ⟨S320000x4, .f32⟩
  | 5 => ⟨S320000x4x1, .f32⟩
  | 6 => ⟨S320000x4x128, .f32⟩
  | 7 => ⟨S320000x4x128, .f32⟩
  | 8 => ⟨S_, .f32⟩
  | 9 => ⟨S10000x4x128, .f32⟩
  | 10 => ⟨S320000x1, .i32⟩
  | 11 => ⟨S10000x4x128, .f32⟩
  | 12 => ⟨S10000x512, .f32⟩
  | 13 => ⟨S10000x512, .f32⟩
  | 14 => ⟨S10000x512, .f32⟩
  | 15 => ⟨S1x512, .f32⟩
  | 16 => ⟨S10000x512, .f32⟩
  | 17 => ⟨S10000x512, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_call1_v0 : Ref sig .tc := ⟨.hbm, 90, rfl⟩
abbrev main_call1_v1 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_c_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]
-- ==== Proof.Softmax.lean ====
/- The algebra of a softmax over the extended reals: shifting every score of a group by one real number multiplies each
   exponential, and so their sum and the guard, by one positive real factor, which the quotient cancels. Infinite scores
   are covered: nothing is asked of the scores. -/
module

public import Idealize.ShloMosaic.PureOps.Ideal
public import Idealize.ShloMosaic.PureOps.Ideal.Laws

@[expose] public section

noncomputable section

namespace Cert.Proof

open Idealize.ShloMosaic
open scoped BigOperators

/-- The exponential of a real number, as an extended real. -/
theorem exp_real (r : ℝ) : Ideal.exp (r : EReal) = (Real.exp r : EReal) := rfl

/-- An exponential is not negative. -/
theorem exp_nonneg (x : EReal) : 0 ≤ Ideal.exp x := by
  induction x with
  | bot => exact le_refl _
  | top => exact le_top
  | coe r => rw [exp_real]; exact EReal.coe_nonneg.2 (Real.exp_pos r).le

/-- The exponential of a score less a real shift is the exponential of the score times that of the negated shift. -/
theorem exp_shift (x : EReal) (r : ℝ) : Ideal.exp (x - (r : EReal)) = Ideal.exp x * (Real.exp (-r) : EReal) := by
  induction x with
  | bot =>
    rw [EReal.bot_sub]
    show (0 : EReal) = 0 * _
    rw [zero_mul]
  | top =>
    rw [EReal.top_sub_coe]
    exact (EReal.top_mul_coe_of_pos (Real.exp_pos (-r))).symm
  | coe a =>
    rw [← EReal.coe_sub, exp_real, exp_real, ← EReal.coe_mul, ← Real.exp_add, sub_eq_add_neg]

/-- A positive real factor common to every term of a sum of terms that are not negative may be taken out. -/
theorem sum_factor {ι : Type} (s : Finset ι) (f : ι → EReal) (hf : ∀ j, 0 ≤ f j) (c : EReal) :
    ∑ j ∈ s, f j * c = (∑ j ∈ s, f j) * c := by
  classical
  induction s using Finset.induction_on with
  | empty => rw [Finset.sum_empty, Finset.sum_empty, zero_mul]
  | insert a s ha ih =>
    rw [Finset.sum_insert ha, Finset.sum_insert ha, ih,
      EReal.right_distrib_of_nonneg (hf a) (Finset.sum_nonneg fun j _ => hf j)]

/-- A positive real factor common to both sides of a quotient with a positive denominator cancels. -/
theorem div_cancel (a y : EReal) (hy : 0 < y) (c : ℝ) (hc : 0 < c) :
    Ideal.div (a * (c : EReal)) (y * (c : EReal)) = Ideal.div a y := by
  have hc' : (0 : EReal) < (c : EReal) := EReal.coe_pos.2 hc
  have hyc : y * (c : EReal) ≠ 0 := (EReal.mul_pos hy hc').ne'
  unfold Ideal.div
  rw [if_neg hyc, if_neg hy.ne', EReal.mul_inv, mul_mul_mul_comm, ← EReal.coe_inv, ← EReal.coe_mul,
    mul_inv_cancel₀ hc.ne', EReal.coe_one, mul_one]

/-- One softmax weight: the score and every exponential of its group shifted by one real number, and the guard scaled by
    the exponential of the negated shift, give the weight of the scores as they are. -/
theorem weight_shift {ι : Type} (s : Finset ι) (score : ι → EReal) (x guard : EReal) (hg : 0 < guard) (r : ℝ) :
    Ideal.div (Ideal.exp (x - (r : EReal)))
        ((0 + ∑ j ∈ s, Ideal.exp (score j - (r : EReal))) + guard * Ideal.exp (-(r : EReal)))
      = Ideal.div (Ideal.exp x) ((0 + ∑ j ∈ s, Ideal.exp (score j)) + guard) := by
  have hS : 0 ≤ ∑ j ∈ s, Ideal.exp (score j) := Finset.sum_nonneg fun j _ => exp_nonneg _
  simp only [exp_shift]
  rw [sum_factor s _ (fun j => exp_nonneg _), ← EReal.coe_neg, exp_real, zero_add, zero_add,
    ← EReal.right_distrib_of_nonneg hS hg.le]
  exact div_cancel _ _ (lt_of_lt_of_le hg (le_add_of_nonneg_left hS)) _ (Real.exp_pos _)

/-- The guard of the two programs, the single-precision number nearest `1e-16`, is positive. -/
theorem guard_pos : 0 < Ideal.ofBits .f32 0x24E69595#32 := by
  have h : Ideal.ofBits .f32 0x24E69595#32 = (((15111573 : ℝ) * (2 : ℝ) ^ (-77 : ℤ) : ℝ) : EReal) := by
    simp [Ideal.ofBits, Ideal.ieee]
  rw [h]
  exact EReal.coe_pos.2 (by positivity)

/-- A value that is replaced by zero when its magnitude is not below infinity is a real number. -/
theorem select_finite (x : EReal) :
    ∃ r : ℝ, Scalar.select (Ideal.cmp .olt (max x (-x)) ⊤) x ((0 : ℝ) : EReal) = (r : EReal) := by
  unfold Scalar.select Ideal.cmp
  induction x with
  | bot => exact ⟨0, by simp⟩
  | top => exact ⟨0, by simp⟩
  | coe r =>
    refine ⟨r, ?_⟩
    have h : max (r : EReal) (-(r : EReal)) < ⊤ := max_lt (EReal.coe_lt_top r) (by
      rw [← EReal.coe_neg]; exact EReal.coe_lt_top (-r))
    simp [h]

end Cert.Proof

end
-- ==== Proof.Weights.lean ====
/- The attention weights: the kernel's, whose softmax exponentiates the scores as they are, are the reference's, whose
   softmax shifts them by their group's maximum. The scores, the edges' target nodes and the maxima are arbitrary here:
   the maxima are used only through their being replaced by zero where they are not finite. -/
module

public import proofs.«01_k».proof.Proof.Gen.ReferenceIdeal.Run
public import proofs.«01_k».proof.Proof.Softmax
public import Idealize.ShloMosaic.Lib.Routing.OpsPair
public import Idealize.ShloMosaic.Lib.IdealHost

@[expose] public section

noncomputable section

namespace Cert.Proof

open Idealize.ShloMosaic Cert.ReferenceIdeal Cert.ReferenceIdeal.Gen
open scoped BigOperators

/-- Reading a nodes by heads array at each edge's node. -/
abbrev gat : GatherDims S10000x4 S320000x1 S320000x4 := gather_S10000x4_S320000x1_S320000x4_1_0_n_n_0_1_14

/-- Adding each edge's row into a nodes by heads array at the edge's target node. -/
abbrev sca : ScatterDims S10000x4 S320000x1 S320000x4 := scatter_S10000x4_S320000x1_S320000x4_1_0_0_1

/-- The cell of the edges' index column that an element of an edges by heads array reads. -/
def cell (j : S320000x4.Idx) : S320000x1.Idx := fun b => match b with
  | ⟨0, _⟩ => j 0
  | ⟨1, _⟩ => (0 : Fin 1)

/-- The scatter starts at the row that the edge's cell names. -/
theorem sca_start_row (j : S320000x4.Idx) (idx : IVec S320000x1 32) : sca.start j idx 0 = (idx (cell j)).toInt := by
  unfold ScatterDims.start
  rw [dif_pos (by decide)]
  congr 2
  funext b
  match b with
  | ⟨0, _⟩ => rfl
  | ⟨1, _⟩ => rfl

/-- The gather starts at the row that the edge's cell names, held between the first row and the last. -/
theorem gat_start_row (j : S320000x4.Idx) (idx : IVec S320000x1 32) :
    gat.start j idx 0 = min (idx (cell j)).toInt.toNat 9999 := by
  unfold GatherDims.start
  rw [dif_pos (by decide)]
  congr 4
  funext b
  match b with
  | ⟨0, _⟩ => rfl
  | ⟨1, _⟩ => rfl

/-- The index column that the gathers read: the target node, counted from the end where it is negative. -/
def wrapped (dst : IVec S320000 32) : IVec S320000 32 :=
  select (cmpi .slt dst (broadcastInDim S320000 ![] bcast_S_S320000 (constantI S_ 32 0#32)))
    (addi dst (broadcastInDim S320000 ![] bcast_S_S320000 (constantI S_ 32 10000#32))) dst

/-- A node number that is not negative is not wrapped. -/
theorem wrapped_of_nonneg (dst : IVec S320000 32) (k : S320000.Idx) (h : 0 ≤ (dst k).toInt) : wrapped dst k = dst k := by
  show Scalar.select (IntOp.cmpi .slt (dst k) 0#32) (IntOp.addi (dst k) 10000#32) (dst k) = dst k
  unfold Scalar.select IntOp.cmpi
  have : (dst k).slt 0#32 = false := by
    rw [BitVec.slt_eq_decide]
    simpa using h
  simp only [this]
  rfl

/-- The row that an edge's exponential is added into is the row that the edge reads back. -/
theorem gathers_where_it_lands (dst : IVec S320000 32) (j : S320000x4.Idx) (i : S10000x4.Idx)
    (h : sca.resultIdx? j (broadcastInDim S320000x1 ![0] bcast_S320000_S320000x1_0 dst) = some i) :
    gat.operandIdx j (broadcastInDim S320000x1 ![0] bcast_S320000_S320000x1_0 (wrapped dst)) = i := by
  rw [Routing.resultIdx?_eq_some] at h
  have h0 := h 0
  have h1 := h 1
  rw [sca_start_row] at h0
  have hw0 : sca.window j 0 = 0 := rfl
  have hs1 : sca.start j (broadcastInDim S320000x1 ![0] bcast_S320000_S320000x1_0 dst) 1 = 0 := rfl
  have hw1 : sca.window j 1 = (j 1).val := rfl
  rw [hw0] at h0
  rw [hs1, hw1] at h1
  obtain ⟨k, hk⟩ : ∃ k : S320000.Idx, ∀ v : IVec S320000 32,
      broadcastInDim S320000x1 ![0] bcast_S320000_S320000x1_0 v (cell j) = v k := ⟨_, fun _ => rfl⟩
  rw [hk] at h0
  have hnn : 0 ≤ (dst k).toInt := by omega
  have hlt : (i 0).val < 10000 := (i 0).isLt
  funext a
  apply Fin.ext
  match a with
  | ⟨0, _⟩ =>
    show gat.start j _ 0 + gat.batchCoord j 0 + gat.offCoord j 0 = (i 0).val
    have hb : gat.batchCoord j 0 = 0 := rfl
    have ho : gat.offCoord j 0 = 0 := rfl
    rw [gat_start_row, hb, ho, hk, wrapped_of_nonneg dst k hnn]
    omega
  | ⟨1, _⟩ =>
    show gat.start j _ 1 + gat.batchCoord j 1 + gat.offCoord j 1 = (i 1).val
    have hs : gat.start j (broadcastInDim S320000x1 ![0] bcast_S320000_S320000x1_0 (wrapped dst)) 1 = 0 := rfl
    have hb : gat.batchCoord j 1 = 0 := rfl
    have ho : gat.offCoord j 1 = (j 1).val := rfl
    rw [hs, hb, ho]
    omega

/-- A float scatter that adds, read at one element over the extended reals: the element and the sum of what lands on it. -/
theorem scatterAdd_at {s si u : Shape} (d : ScatterDims s si u) (x : FVec Ideal s .f32) (idx : IVec si 32)
    (upd : FVec Ideal u .f32) (i : s.Idx) : Host.scatterAdd d x idx upd i
      = (x i + ∑ k ∈ Finset.univ.filter (fun k => d.resultIdx? k idx = some i), upd k : EReal) := rfl

/-- A host quotient, read at one element over the extended reals. -/
theorem divf_at {s : Shape} (x y : FVec Ideal s .f32) (i : s.Idx) : Host.divf x y i = Ideal.div (x i) (y i) := rfl

/-- A host exponential, read at one element over the extended reals. -/
theorem exp_at {s : Shape} (x : FVec Ideal s .f32) (i : s.Idx) : Host.exp x i = Ideal.exp (x i) := rfl

/-- A host negation, read at one element over the extended reals. -/
theorem negf_at {s : Shape} (x : FVec Ideal s .f32) (i : s.Idx) : Host.negf x i = (-(x i) : EReal) := rfl

/-- A sum of two arrays, read at one element over the extended reals. -/
theorem addf_at {s : Shape} (x y : FVec Ideal s .f32) (i : s.Idx) : addf x y i = (x i + y i : EReal) := rfl

/-- A difference of two arrays, read at one element over the extended reals. -/
theorem subf_at {s : Shape} (x y : FVec Ideal s .f32) (i : s.Idx) : subf x y i = (x i - y i : EReal) := rfl

/-- A product of two arrays, read at one element over the extended reals. -/
theorem mulf_at {s : Shape} (x y : FVec Ideal s .f32) (i : s.Idx) : mulf x y i = (x i * y i : EReal) := rfl

/-- A gather, read at one element. -/
theorem gather_at {s si t : Shape} (d : GatherDims s si t) (x : FVec Ideal s .f32) (idx : IVec si 32) (j : t.Idx) :
    Host.gather d x idx j = x (d.operandIdx j idx) := rfl

/-- A nodes by heads array with zero in place of what is not finite. -/
def finiteOr0 (M : FVec Ideal S10000x4 .f32) : FVec Ideal S10000x4 .f32 :=
  select (cmpf .olt (Host.absf M) (broadcastInDim S10000x4 ![] bcast_S_S10000x4 (constant S_ .f32 0x7F800000#32))) M
    (broadcastInDim S10000x4 ![] bcast_S_S10000x4 (constant S_ .f32 0x00000000#32))

/-- Every element of such an array is a real number. -/
theorem finiteOr0_real (M : FVec Ideal S10000x4 .f32) (i : S10000x4.Idx) : ∃ r : ℝ, finiteOr0 M i = (r : EReal) := by
  have hT : Ideal.ofBits .f32 0x7F800000#32 = ⊤ := by simp [Ideal.ofBits, Ideal.ieee]
  have h0 : Ideal.ofBits .f32 0x00000000#32 = ((0 : ℝ) : EReal) := by simp [Ideal.ofBits, Ideal.ieee]
  obtain ⟨r, hr⟩ := select_finite (M i)
  refine ⟨r, ?_⟩
  rw [← hr, ← hT, ← h0]
  rfl

/-- The kernel's weights, from the scores of the edges and their target nodes. -/
def kernelWeights (A : FVec Ideal S320000x4 .f32) (dst : IVec S320000 32) : FVec Ideal S320000x4 .f32 :=
  Host.divf (Host.exp A) (addf (Host.gather gat (Host.scatterAdd sca
      (broadcastInDim S10000x4 ![] bcast_S_S10000x4 (constant S_ .f32 0x00000000#32))
      (broadcastInDim S320000x1 ![0] bcast_S320000_S320000x1_0 dst) (Host.exp A))
      (broadcastInDim S320000x1 ![0] bcast_S320000_S320000x1_0 (wrapped dst)))
    (broadcastInDim S320000x4 ![] bcast_S_S320000x4 (constant S_ .f32 0x24E69595#32)))

/-- The reference's shift of each edge's scores: what its target node holds in `M`, zero where that is not finite. -/
def shift (M : FVec Ideal S10000x4 .f32) (dst : IVec S320000 32) : FVec Ideal S320000x4 .f32 :=
  Host.gather gat (finiteOr0 M) (broadcastInDim S320000x1 ![0] bcast_S320000_S320000x1_0 (wrapped dst))

/-- The reference's weights, from the scores of the edges, their target nodes and the nodes' maxima. -/
def referenceWeights (A : FVec Ideal S320000x4 .f32) (M : FVec Ideal S10000x4 .f32) (dst : IVec S320000 32) :
    FVec Ideal S320000x4 .f32 :=
  Host.divf (Host.exp (subf A (shift M dst))) (addf (Host.gather gat (Host.scatterAdd sca
      (broadcastInDim S10000x4 ![] bcast_S_S10000x4 (constant S_ .f32 0x00000000#32))
      (broadcastInDim S320000x1 ![0] bcast_S320000_S320000x1_0 dst) (Host.exp (subf A (shift M dst))))
      (broadcastInDim S320000x1 ![0] bcast_S320000_S320000x1_0 (wrapped dst)))
    (mulf (broadcastInDim S320000x4 ![] bcast_S_S320000x4 (constant S_ .f32 0x24E69595#32))
      (Host.exp (Host.negf (shift M dst)))))

/-- The two programs' weights are the same, whatever the scores, the target nodes and the maxima. -/
theorem weights_eq (A : FVec Ideal S320000x4 .f32) (M : FVec Ideal S10000x4 .f32) (dst : IVec S320000 32) :
    kernelWeights A dst = referenceWeights A M dst := by
  funext j
  -- the node that edge `j` reads, and its shift
  generalize hi : gat.operandIdx j (broadcastInDim S320000x1 ![0] bcast_S320000_S320000x1_0 (wrapped dst)) = i
  obtain ⟨r, hr⟩ := finiteOr0_real M i
  have hz : ∀ i, broadcastInDim S10000x4 ![] bcast_S_S10000x4 (constant (F := Ideal) S_ .f32 0x00000000#32) i = (0 : EReal) :=
    fun _ => Ideal.ofBits_zero_f32
  have hshift : ∀ k, gat.operandIdx k (broadcastInDim S320000x1 ![0] bcast_S320000_S320000x1_0 (wrapped dst)) = i →
      shift M dst k = (r : EReal) := fun k hk => (congrArg (finiteOr0 M) hk).trans hr
  -- the edges of that node
  generalize hs : (Finset.univ.filter fun k =>
    sca.resultIdx? k (broadcastInDim S320000x1 ![0] bcast_S320000_S320000x1_0 dst) = some i) = s
  have hmem : ∀ k ∈ s, shift M dst k = (r : EReal) := fun k hk =>
    hshift k (gathers_where_it_lands dst k i (by rw [← hs] at hk; exact (Finset.mem_filter.1 hk).2))
  have hg : ∀ k, broadcastInDim S320000x4 ![] bcast_S_S320000x4 (constant (F := Ideal) S_ .f32 0x24E69595#32) k
      = Ideal.ofBits .f32 0x24E69595#32 := fun _ => rfl
  have hk : kernelWeights A dst j
      = Ideal.div (Ideal.exp (A j)) ((0 + ∑ k ∈ s, Ideal.exp (A k)) + Ideal.ofBits .f32 0x24E69595#32) := by
    unfold kernelWeights
    rw [divf_at, addf_at, exp_at, gather_at, hi, scatterAdd_at, hs, hz, hg]
    simp only [exp_at]
  have hk' : referenceWeights A M dst j
      = Ideal.div (Ideal.exp (A j - shift M dst j)) ((0 + ∑ k ∈ s, Ideal.exp (A k - shift M dst k))
          + Ideal.ofBits .f32 0x24E69595#32 * Ideal.exp (-(shift M dst j))) := by
    unfold referenceWeights
    rw [divf_at, addf_at, exp_at, gather_at, hi, scatterAdd_at, hs, hz, mulf_at, hg, exp_at, negf_at, subf_at]
    simp only [exp_at, subf_at]
  have hsum : ∑ k ∈ s, Ideal.exp (A k - shift M dst k) = ∑ k ∈ s, Ideal.exp (A k - (r : EReal)) :=
    Finset.sum_congr rfl fun k h => by rw [hmem k h]
  rw [hk, hk', hsum, hshift j hi]
  exact (weight_shift s A (A j) _ guard_pos r).symm

end Cert.Proof

end
-- ==== Proof.Attention.lean ====
/- The graph attention, step by step over the extended reals: the names under which the two programs' results meet. The
   attention's score of an edge at a head is the product of its target's query with its source's key and the edge's own
   row, over the square root of the head's width; its result at a node the edges' values weighted and summed, a linear
   image of the node's own row, and a bias. -/
module

public import proofs.«01_k».proof.Proof.Weights

@[expose] public section

noncomputable section

namespace Cert.Proof

open Idealize.ShloMosaic Idealize.ShloMosaic.TcCoe Cert.ReferenceIdeal Cert.ReferenceIdeal.Gen

/-- The edges' source nodes. -/
def sources (edges : IVec S2x320000 32) : IVec S320000 32 :=
  shapeCast _ (extractStridedSlice S1x320000 ![0, 0] edges slices_S2x320000_S1x320000_0_0) shapeCasts_S1x320000_S320000

/-- The edges' target nodes. -/
def targets (edges : IVec S2x320000 32) : IVec S320000 32 :=
  shapeCast _ (extractStridedSlice S1x320000 ![1, 0] edges slices_S2x320000_S1x320000_1_0) shapeCasts_S1x320000_S320000

/-- A bias as a row under every node. -/
def biasRows (b : FVec Ideal S512 .f32) : FVec Ideal S10000x512 .f32 :=
  broadcastInDim S10000x512 ![0, 1] bcast_S1x512_S10000x512_0_1 (broadcastInDim S1x512 ![1] bcast_S512_S1x512_1 b)

/-- A linear image of every node's row. -/
def nodeImage (x : FVec Ideal S10000x128 .f32) (W : FVec Ideal S128x512 .f32) : FVec Ideal S10000x512 .f32 :=
  Host.dotGeneral dot_S10000x128_S128x512_S10000x512_1_0_0_1_n_n none x W

/-- The queries, keys or values: an affine image of every node's row, cut into heads. -/
def project (x : FVec Ideal S10000x128 .f32) (W : FVec Ideal S128x512 .f32) (b : FVec Ideal S512 .f32) :
    FVec Ideal S10000x4x128 .f32 :=
  shapeCast _ (addf (nodeImage x W) (biasRows b)) shapeCasts_S10000x512_S10000x4x128

/-- The edges' rows: a linear image of every edge's attributes, cut into heads. -/
def edgeRows (e : FVec Ideal S320000x16 .f32) (W : FVec Ideal S16x512 .f32) : FVec Ideal S320000x4x128 .f32 :=
  shapeCast _ (Host.dotGeneral dot_S320000x16_S16x512_S320000x512_1_0_0_1_n_n none e W) shapeCasts_S320000x512_S320000x4x128

/-- What every edge reads of a nodes by heads array of rows, at one of its ends. -/
def atNodes (x : FVec Ideal S10000x4x128 .f32) (node : IVec S320000 32) : FVec Ideal S320000x4x128 .f32 :=
  Host.gather gather_S10000x4x128_S320000x1_S320000x4x128_12_0_n_n_0_1_14128 x
    (broadcastInDim S320000x1 ![0] bcast_S320000_S320000x1_0 (wrapped node))

/-- The edges' scores at every head. -/
def scores (q k : FVec Ideal S10000x4x128 .f32) (e : FVec Ideal S320000x4x128 .f32) (src dst : IVec S320000 32) :
    FVec Ideal S320000x4 .f32 :=
  Host.divf (Host.reduceAdd (mulf (atNodes q dst) (addf (atNodes k src) e)) (constant S_ .f32 0x00000000#32)
      reducesTo_S320000x4x128_S320000x4_d2 h_S_)
    (broadcastInDim S320000x4 ![] bcast_S_S320000x4 (Host.sqrt (constant S_ .f32 0x43000000#32)))

/-- Each node's greatest score over the edges into it. -/
def maxima (A : FVec Ideal S320000x4 .f32) (dst : IVec S320000 32) : FVec Ideal S10000x4 .f32 :=
  Host.reduce FloatOps.maximumf
    (select (broadcastInDim S10000x320000x4 ![0, 1, 2] bcast_S10000x320000x1_S10000x320000x4_0_1_2
        (broadcastInDim S10000x320000x1 ![0, 1] bcast_S10000x320000_S10000x320000x1_0_1
          (cmpi .eq (broadcastInDim S10000x320000 ![0, 1] bcast_S1x320000_S10000x320000_0_1
              (broadcastInDim S1x320000 ![1] bcast_S320000_S1x320000_1 dst))
            (broadcastInDim S10000x320000 ![0, 1] bcast_S10000x1_S10000x320000_0_1
              (broadcastInDim S10000x1 ![0] bcast_S10000_S10000x1_0 (iotaInDim S10000 32 0))))))
      (broadcastInDim S10000x320000x4 ![0, 1, 2] bcast_S1x320000x4_S10000x320000x4_0_1_2
        (broadcastInDim S1x320000x4 ![1, 2] bcast_S320000x4_S1x320000x4_1_2 A))
      (broadcastInDim S10000x320000x4 ![] bcast_S_S10000x320000x4 (constant S_ .f32 0xFF800000#32)))
    (constant S_ .f32 0xFF800000#32) reducesTo_S10000x320000x4_S10000x4_d1 h_S_

/-- Every node's sum of its edges' values under the weights `w`, beside a linear image of its own row and a bias. -/
def attend (v e : FVec Ideal S320000x4x128 .f32) (w : FVec Ideal S320000x4 .f32) (dst : IVec S320000 32)
    (x : FVec Ideal S10000x128 .f32) (W : FVec Ideal S128x512 .f32) (b : FVec Ideal S512 .f32) : FVec Ideal S10000x512 .f32 :=
  addf (addf (shapeCast _ (Host.scatterAdd scatter_S10000x4x128_S320000x1_S320000x4x128_12_0_0_1
        (broadcastInDim S10000x4x128 ![] bcast_S_S10000x4x128 (constant S_ .f32 0x00000000#32))
        (broadcastInDim S320000x1 ![0] bcast_S320000_S320000x1_0 dst)
        (mulf (addf v e) (broadcastInDim S320000x4x128 ![0, 1, 2] bcast_S320000x4x1_S320000x4x128_0_1_2
          (broadcastInDim S320000x4x1 ![0, 1] bcast_S320000x4_S320000x4x1_0_1 w)))) shapeCasts_S10000x4x128_S10000x512)
      (nodeImage x W)) (biasRows b)

/-- The contents of a memory of the reference's program. -/
abbrev ReferenceMem : Type := (ℓ : Loc nD τ sig) → Buf (Elt Ideal) ℓ

/-- The scores of the arguments that a memory of the reference's program holds. -/
def scoresOf (m : ReferenceMem) (c : Dev nD) : FVec Ideal S320000x4 .f32 :=
  scores (project (m ((c.tc : Thread nD τ).loc main_arg0)) (m ((c.tc : Thread nD τ).loc main_arg3)) (m ((c.tc : Thread nD τ).loc main_arg4)))
    (project (m ((c.tc : Thread nD τ).loc main_arg0)) (m ((c.tc : Thread nD τ).loc main_arg5)) (m ((c.tc : Thread nD τ).loc main_arg6)))
    (edgeRows (m ((c.tc : Thread nD τ).loc main_arg2)) (m ((c.tc : Thread nD τ).loc main_arg9)))
    (sources (m ((c.tc : Thread nD τ).loc main_arg1))) (targets (m ((c.tc : Thread nD τ).loc main_arg1)))

/-- The target nodes that a memory of the reference's program holds. -/
def targetsOf (m : ReferenceMem) (c : Dev nD) : IVec S320000 32 := targets (m ((c.tc : Thread nD τ).loc main_arg1))

/-- The attention's result under the weights `w`, of the arguments that a memory of the reference's program holds. -/
def attendOf (m : ReferenceMem) (c : Dev nD) (w : FVec Ideal S320000x4 .f32) : FVec Ideal S10000x512 .f32 :=
  attend (atNodes (project (m ((c.tc : Thread nD τ).loc main_arg0)) (m ((c.tc : Thread nD τ).loc main_arg7))
      (m ((c.tc : Thread nD τ).loc main_arg8))) (sources (m ((c.tc : Thread nD τ).loc main_arg1))))
    (edgeRows (m ((c.tc : Thread nD τ).loc main_arg2)) (m ((c.tc : Thread nD τ).loc main_arg9))) w (targetsOf m c)
    (m ((c.tc : Thread nD τ).loc main_arg0)) (m ((c.tc : Thread nD τ).loc main_arg10)) (m ((c.tc : Thread nD τ).loc main_arg11))

set_option maxRecDepth 8192 in
/-- The reference's weights are the shifted softmax of the scores. -/
theorem reference_weights (m : ReferenceMem) (c : Dev nD) : Value.res_out2 m c
    = referenceWeights (scoresOf m c) (maxima (scoresOf m c) (targetsOf m c)) (targetsOf m c) := rfl

set_option maxRecDepth 8192 in
/-- The reference's node result is the attention under its weights. -/
theorem reference_nodes (m : ReferenceMem) (c : Dev nD) : Value.res_out0 m c = attendOf m c (Value.res_out2 m c) := rfl

end Cert.Proof

end
-- ==== Proof.OneCall.lean ====
/- The kernel's Pallas call leaves ones: it adds one to every element of an array of zeros. -/
module

public import proofs.«01_k».proof.Proof.Gen.KernelIdeal.Frame
public import Idealize.ShloMosaic.Lib.Pipeline.ValueKit
public import Idealize.ShloMosaic.Lib.IdealHost
public import Idealize.ShloMosaic.Lib.Claim

@[expose] public section

noncomputable section

namespace Cert.Proof

open Idealize.ShloMosaic Idealize.ShloMosaic.TcCoe Idealize.SL.Sem Idealize.ShloMosaic.StableHlo
open Cert.KernelIdeal Cert.KernelIdeal.Gen

set_option maxHeartbeats 4000000 in
/-- The Pallas call's operand is zero everywhere when the call starts. -/
theorem operand_zero (m : (ℓ : Loc nD τ sig) → Buf (Elt Ideal) ℓ) (c : Dev nD) :
    V m c main_v75 = (fun _ => (0 : EReal) : S8x128.Idx → EReal) := by
  unfold V V0
  simp only [hostOps0, List.flatten_cons, List.flatten_nil, List.append_nil, TRef.ternary, TRef.unary, TRef.toBuf, TRef.ofBuf, cast_eq]
  after_results_simp
  funext i
  exact Ideal.ofBits_zero_f32

/-- The block that the Pallas call reads is zero everywhere. -/
theorem block_zero (m : (ℓ : Loc nD τ sig) → Buf (Elt Ideal) ℓ) (c : Dev nD) (t : Fin cfg0.N) :
    iblk m c 0 t = fun _ => (0 : EReal) := by
  unfold iblk
  have h : V m c (Pipeline.arrRef spec0 0) = (fun _ => (0 : EReal) : S8x128.Idx → EReal) := operand_zero m c
  rw [h]
  rfl

/-- The Pallas call's result is one everywhere. -/
theorem result_one (m : (ℓ : Loc nD τ sig) → Buf (Elt Ideal) ℓ) (c : Dev nD) :
    (dats m 0 c).arrAt 1 (cfgs 0).N = fun _ => (1 : EReal) := by
  refine (dats m 0 c).arrAt_eq_of_covers 1 _ (by decide +kernel) fun t hf y => ?_
  blk_simp
  rw [after0_1]
  frame_out
  rw [block_zero]
  show (0 : EReal) + Ideal.ofBits .f32 0x3F800000#32 = 1
  rw [Ideal.ofBits_one_f32, zero_add]

end Cert.Proof

end
-- ==== Proof.KernelRun.lean ====
/- What the kernel's program leaves in its two float results, in terms of the arguments that the reference's program
   starts from: its weights are those of the softmax without a shift, and its node result is the attention under them. -/
module

public import proofs.«01_k».proof.Proof.Gen.KernelIdeal.Frame
public import proofs.«01_k».proof.Proof.Attention
public import proofs.«01_k».proof.Proof.OneCall

@[expose] public section

noncomputable section

namespace Cert.Proof

open Idealize.ShloMosaic Idealize.ShloMosaic.TcCoe Idealize.SL.Sem Idealize.ShloMosaic.StableHlo
open Cert.KernelIdeal Cert.KernelIdeal.Gen

/-- The contents of a memory of the kernel's program. -/
abbrev KernelMem : Type := (ℓ : Loc nD τ sig) → Buf (Elt Ideal) ℓ

/-- The two programs start from equal arguments on device `c`. -/
def Agree (m : KernelMem) (m' : ReferenceMem) (c : Dev nD) : Prop :=
    m' ((c.tc : Thread Cert.ReferenceIdeal.nD Cert.ReferenceIdeal.τ).loc Cert.ReferenceIdeal.main_arg0)
        = m ((c.tc : Thread nD τ).loc main_arg0)
    ∧ m' ((c.tc : Thread Cert.ReferenceIdeal.nD Cert.ReferenceIdeal.τ).loc Cert.ReferenceIdeal.main_arg1)
        = m ((c.tc : Thread nD τ).loc main_arg1)
    ∧ m' ((c.tc : Thread Cert.ReferenceIdeal.nD Cert.ReferenceIdeal.τ).loc Cert.ReferenceIdeal.main_arg2)
        = m ((c.tc : Thread nD τ).loc main_arg2)
    ∧ m' ((c.tc : Thread Cert.ReferenceIdeal.nD Cert.ReferenceIdeal.τ).loc Cert.ReferenceIdeal.main_arg3)
        = m ((c.tc : Thread nD τ).loc main_arg3)
    ∧ m' ((c.tc : Thread Cert.ReferenceIdeal.nD Cert.ReferenceIdeal.τ).loc Cert.ReferenceIdeal.main_arg4)
        = m ((c.tc : Thread nD τ).loc main_arg4)
    ∧ m' ((c.tc : Thread Cert.ReferenceIdeal.nD Cert.ReferenceIdeal.τ).loc Cert.ReferenceIdeal.main_arg5)
        = m ((c.tc : Thread nD τ).loc main_arg5)
    ∧ m' ((c.tc : Thread Cert.ReferenceIdeal.nD Cert.ReferenceIdeal.τ).loc Cert.ReferenceIdeal.main_arg6)
        = m ((c.tc : Thread nD τ).loc main_arg6)
    ∧ m' ((c.tc : Thread Cert.ReferenceIdeal.nD Cert.ReferenceIdeal.τ).loc Cert.ReferenceIdeal.main_arg7)
        = m ((c.tc : Thread nD τ).loc main_arg7)
    ∧ m' ((c.tc : Thread Cert.ReferenceIdeal.nD Cert.ReferenceIdeal.τ).loc Cert.ReferenceIdeal.main_arg8)
        = m ((c.tc : Thread nD τ).loc main_arg8)
    ∧ m' ((c.tc : Thread Cert.ReferenceIdeal.nD Cert.ReferenceIdeal.τ).loc Cert.ReferenceIdeal.main_arg9)
        = m ((c.tc : Thread nD τ).loc main_arg9)
    ∧ m' ((c.tc : Thread Cert.ReferenceIdeal.nD Cert.ReferenceIdeal.τ).loc Cert.ReferenceIdeal.main_arg10)
        = m ((c.tc : Thread nD τ).loc main_arg10)
    ∧ m' ((c.tc : Thread Cert.ReferenceIdeal.nD Cert.ReferenceIdeal.τ).loc Cert.ReferenceIdeal.main_arg11)
        = m ((c.tc : Thread nD τ).loc main_arg11)

set_option maxRecDepth 8192 in
set_option maxHeartbeats 52400000 in
/-- The kernel's program ends with the weights of the softmax without a shift, of the arguments' scores and targets. -/
theorem kernel_weights (m : KernelMem) (m' : ReferenceMem) (c : Dev nD) (h : Agree m m' c) :
    Pipeline.afterTail₀ cfgs (dats m) 0 (V0 m) [hostOps1] c main_v62 = kernelWeights (scoresOf m' c) (targetsOf m' c) := by
  obtain ⟨h0, h1, h2, h3, h4, h5, h6, h7, h8, h9, h10, h11⟩ := h
  unfold Pipeline.afterTail₀
  rw [StableHlo.after_of_forall_not_mem (b := Proc.devRef .tc main_v62) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_v62 (by exact (by decide : ∀ w, Pipeline.arrRef spec0 w ≠ main_v62))]
  unfold V0
  simp only [hostOps0, List.flatten_cons, List.flatten_nil, List.append_nil, TRef.ternary, TRef.unary, TRef.toBuf, TRef.ofBuf, cast_eq]
  after_results_simp
  unfold scoresOf targetsOf
  rw [h0, h1, h2, h3, h4, h5, h6, h9]
  rfl

set_option maxRecDepth 8192 in
set_option maxHeartbeats 52400000 in
/-- Before its Pallas call the kernel's program holds the attention under its weights. -/
theorem kernel_before (m : KernelMem) (m' : ReferenceMem) (c : Dev nD) (h : Agree m m' c) :
    V0 m c (Proc.devRef .tc main_v74) = attendOf m' c (kernelWeights (scoresOf m' c) (targetsOf m' c)) := by
  obtain ⟨h0, h1, h2, h3, h4, h5, h6, h7, h8, h9, h10, h11⟩ := h
  unfold V0
  simp only [hostOps0, List.flatten_cons, List.flatten_nil, List.append_nil, TRef.ternary, TRef.unary, TRef.toBuf, TRef.ofBuf, cast_eq]
  after_results_simp
  unfold attendOf scoresOf targetsOf
  rw [h0, h1, h2, h3, h4, h5, h6, h7, h8, h9, h10, h11]
  rfl

set_option maxHeartbeats 4000000 in
/-- The kernel's program ends with the attention under its weights: what its Pallas call adds is zero. -/
theorem kernel_nodes (m : KernelMem) (m' : ReferenceMem) (c : Dev nD) (h : Agree m m' c) :
    Pipeline.afterTail₀ cfgs (dats m) 0 (V0 m) [hostOps1] c main_v81
      = attendOf m' c (kernelWeights (scoresOf m' c) (targetsOf m' c)) := by
  have hbefore := (Pipeline.withArrays_of_ne (cfgs 0).spec c (V0 m c) (fun w => (dats m 0 c).arrAt w (cfgs 0).N) main_v74
    (by exact (by decide : ∀ w, Pipeline.arrRef spec0 w ≠ main_v74))).trans (kernel_before m m' c h)
  have hcall : Pipeline.withArrays (cfgs 0).spec c (V0 m c) (fun w => (dats m 0 c).arrAt w (cfgs 0).N) (Proc.devRef .tc main_v76)
      = (fun _ => (1 : EReal) : S8x128.Idx → EReal) :=
    (Pipeline.withArrays_arr (cfgs 0).spec (by exact (by decide : Function.Injective (Pipeline.arrRef spec0))) c (V0 m c)
      (fun w => (dats m 0 c).arrAt w (cfgs 0).N) 1).trans (result_one m c)
  unfold Pipeline.afterTail₀
  simp only [hostOps1, List.flatten_cons, List.flatten_nil, List.append_nil]
  after_results_simp
  rw [hbefore, hcall]
  generalize attendOf m' c (kernelWeights (scoresOf m' c) (targetsOf m' c)) = y
  funext i
  show (y i : EReal) + ((1 : EReal) - Ideal.ofBits .f32 0x3F800000#32) = y i
  rw [Ideal.ofBits_one_f32]
  have : (1 : EReal) - 1 = 0 := by
    rw [← EReal.coe_one, ← EReal.coe_sub, sub_self, EReal.coe_zero]
  rw [this, add_zero]

end Cert.Proof

end
-- ==== Proof.Guard.lean ====
/- What the guard of the softmax's quotient does under the shift. `reference.py` adds the guard to the shifted sum as it
   is; the reference of the claim adds it times the exponential of the negated shift. The first is not the kernel's
   weight over the real numbers, and is near it: the two are apart by at most the guard times `|1 - exp (-M)|`, where `M`
   is the greatest score of the group. -/
module

public import proofs.«01_k».proof.Proof.Softmax

@[expose] public section

noncomputable section

namespace Cert.Proof

open scoped BigOperators

/-- With one edge into a node, of score one, the weight without the shift is not the weight with the shift and the guard as
    it is, whatever the positive guard. -/
theorem guard_distinguishes (g : ℝ) (hg : 0 < g) :
    Real.exp 1 / (Real.exp 1 + g) ≠ Real.exp (1 - 1) / (Real.exp (1 - 1) + g) := by
  have he : (1 : ℝ) < Real.exp 1 := Real.one_lt_exp_iff.2 one_pos
  have hp : 0 < Real.exp 1 := Real.exp_pos 1
  rw [sub_self, Real.exp_zero]
  intro h
  rw [div_eq_div_iff (by positivity) (by positivity)] at h
  nlinarith

/-- Real scores `score` over a group `s`, whose greatest is `M`: the weight of an edge `i` of the group without the shift,
    and the one with the shift `M` and the guard as it is, differ by at most the guard times `|1 - exp (-M)|`. -/
theorem guard_bound {ι : Type} (s : Finset ι) (score : ι → ℝ) (M g : ℝ) (hg : 0 < g) (i : ι) (hi : i ∈ s)
    (hM : ∃ k ∈ s, score k = M) :
    |Real.exp (score i) / ((∑ k ∈ s, Real.exp (score k)) + g)
        - Real.exp (score i - M) / ((∑ k ∈ s, Real.exp (score k - M)) + g)| ≤ g * |1 - Real.exp (-M)| := by
  obtain ⟨k, hk, hkM⟩ := hM
  have hpos : ∀ j ∈ s, 0 ≤ Real.exp (score j) := fun j _ => (Real.exp_pos _).le
  have hiS := Finset.single_le_sum hpos hi
  have hkS := Finset.single_le_sum hpos hk
  rw [hkM] at hkS
  have hshift : ∀ j, Real.exp (score j - M) = Real.exp (score j) * Real.exp (-M) := fun j => by
    rw [sub_eq_add_neg, Real.exp_add]
  simp only [hshift]
  rw [← Finset.sum_mul]
  generalize (∑ j ∈ s, Real.exp (score j)) = S at hiS hkS ⊢
  have ha : 0 < Real.exp (score i) := Real.exp_pos _
  have hq : 0 < Real.exp (-M) := Real.exp_pos _
  have hpq : Real.exp M * Real.exp (-M) = 1 := by rw [← Real.exp_add, add_neg_cancel, Real.exp_zero]
  have h1 : 1 ≤ S * Real.exp (-M) := hpq ▸ mul_le_mul_of_nonneg_right hkS hq.le
  generalize Real.exp (score i) = a at ha hiS ⊢
  generalize Real.exp (-M) = q at hq h1 ⊢
  have hS : 0 < S := lt_of_lt_of_le ha hiS
  have hd : a / (S + g) - a * q / (S * q + g) = a / (S + g) * (1 / (S * q + g)) * (g * (1 - q)) := by
    have : S * q + g ≠ 0 := by positivity
    field_simp
    ring
  have h2 : a / (S + g) ≤ 1 := (div_le_one (by positivity)).2 (by linarith)
  have h3 : 1 / (S * q + g) ≤ 1 := (div_le_one (by positivity)).2 (by linarith)
  have h4 : 0 ≤ a / (S + g) := by positivity
  have h5 : 0 ≤ 1 / (S * q + g) := by positivity
  rw [hd, abs_mul, abs_of_nonneg (mul_nonneg h4 h5), abs_mul, abs_of_pos hg]
  exact mul_le_of_le_one_left (by positivity) (mul_le_one₀ h2 h5 h3)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Guard
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's program leaves its arguments as they were and every semaphore counter at zero. -/
theorem reference_frame : Cert.quiescent_ReferenceIdeal := fun m g _ =>
  θ_run_mono (Cert.ReferenceIdeal.Value.run (F := Ideal) m g) fun r h =>
    ⟨fun c => (h c).2.2.2, sem_eq_zero_of_no_sems (by decide) r.2⟩

/-- The kernel's results are the reference's, over the extended reals, whatever the arguments. -/
theorem kernel_computes_reference : Cert.algebraic_KernelIdeal_ReferenceIdeal := by
  intro m g m' g' _ hagree
  refine ⟨fun c => Cert.ReferenceIdeal.Value.res_out0 m' c, fun c => m ((c.tc : Thread _ _).loc Cert.KernelIdeal.main_arg1),
    fun c => Cert.ReferenceIdeal.Value.res_out2 m' c, ?_, ?_⟩
  · refine θ_run_mono (θ_run_and (Cert.KernelIdeal.Gen.run_main (F := Ideal) m g) (Cert.KernelIdeal.Gen.unchanged (F := Ideal) m g)) ?_
    intro r hr c
    obtain ⟨hrun, hargs⟩ := hr
    have hw : Cert.ReferenceIdeal.Value.res_out2 m' c = kernelWeights (scoresOf m' c) (targetsOf m' c) :=
      (reference_weights m' c).trans (weights_eq _ _ _).symm
    refine ⟨?_, (hargs c).2.1, ?_, hargs c⟩
    · refine ((hrun c).2 Cert.KernelIdeal.main_v81 (Pipeline.mem_restRefs_of _ (by decide) (by decide))).trans ?_
      exact (kernel_nodes m m' c (hagree c)).trans ((reference_nodes m' c).trans (congrArg (attendOf m' c) hw)).symm
    · refine ((hrun c).2 Cert.KernelIdeal.main_v62 (Pipeline.mem_restRefs_of _ (by decide) (by decide))).trans ?_
      exact (kernel_weights m m' c (hagree c)).trans hw.symm
  · refine θ_run_mono (Cert.ReferenceIdeal.Value.run (F := Ideal) m' g') fun r h c => ?_
    obtain ⟨h0, h1, h2, hargs⟩ := h c
    exact ⟨h0, h1.trans (hagree c).2.1, h2, hargs⟩

/-- The certificate's claims: the three programs' frames, and the kernel's results against the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial,
  kernel_computes_reference⟩

end Cert.Proof

end
